-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_tables [hPre_in_tables : Cert.Pre_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_tables [hPre_in_tables : Cert.Pre_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_tables [hKernelIdeal : Cert.KernelIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_tables [hReferenceIdeal : Cert.ReferenceIdeal.Facts] [hPre_in_tables : Cert.Pre_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_tables [hKernelIdeal : Cert.KernelIdeal.Facts] [hReferenceIdeal : Cert.ReferenceIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_tables : Cert.Pre_in_tables.Facts),
    quiescent_Kernel (hKernel := hKernel)
    ∧ quiescent_KernelIdeal (hKernelIdeal := hKernelIdeal)
    ∧ quiescent_KernelIdeal_pre_in_tables (hKernelIdeal := hKernelIdeal) (hPre_in_tables := hPre_in_tables)
    ∧ quiescent_ReferenceIdeal (hReferenceIdeal := hReferenceIdeal)
    ∧ quiescent_ReferenceIdeal_pre_in_tables (hReferenceIdeal := hReferenceIdeal) (hPre_in_tables := hPre_in_tables)
    ∧ preserves_Kernel_KernelIdeal
    ∧ algebraic_KernelIdeal_ReferenceIdeal_pre_in_tables (hKernelIdeal := hKernelIdeal) (hReferenceIdeal := hReferenceIdeal) (hPre_in_tables := hPre_in_tables)
-- ==== Pre_in_tables.lean ====
abbrev S1024 : Shape := ⟨1, ![1024]⟩
abbrev S1024x1024 : Shape := ⟨2, ![1024, 1024]⟩
abbrev S_ : Shape := ⟨0, ![]⟩
abbrev S32x64 : Shape := ⟨2, ![32, 64]⟩
abbrev S8x64 : Shape := ⟨2, ![8, 64]⟩
abbrev S1000x64 : Shape := ⟨2, ![1000, 64]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v14 : IVec S_ 1) (main_v15 : IVec S_ 1) : IVec S_ 1 :=
  let main_v16 : IVec S_ 1 := andi main_v15 main_v14
  main_v16

def fn {F : FTy → Type} [FloatOps F] (main_arg0 : IVec S1024 32) (main_arg1 : IVec S1024x1024 32) (main_arg2 : IVec S_ 32) (main_arg3 : FVec F S32x64 .f32) (main_arg4 : FVec F S8x64 .f32) (main_arg5 : FVec F S1000x64 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 32#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_c_2 : IVec S_ 32 := constantI S_ 32 0#32
  let main_v6 : IVec S1024x1024 32 := broadcastInDim S1024x1024 ![] bcast_S_S1024x1024 main_c_2
  let main_v7 : IVec S1024x1024 1 := cmpi .sge main_arg1 main_v6
  let main_c_3 : IVec S_ 32 := constantI S_ 32 8#32
  let main_v8 : IVec S1024x1024 32 := broadcastInDim S1024x1024 ![] bcast_S_S1024x1024 main_c_3
  let main_v9 : IVec S1024x1024 1 := cmpi .slt main_arg1 main_v8
  let main_v10 : IVec S1024x1024 1 := andi main_v7 main_v9
  let main_c_4 : IVec S_ 1 := constantI S_ 1 1#1
  let main_v11 : IVec S_ 1 := (fun x v => Host.reduce IntOp.andi x v reducesTo_S1024x1024_S_d0_1 h_S_) main_v10 main_c_4
  let main_c_5 : IVec S_ 32 := constantI S_ 32 0#32
  let main_v12 : IVec S_ 1 := cmpi .sge main_arg2 main_c_5
  let main_c_6 : IVec S_ 32 := constantI S_ 32 1000#32
  let main_v13 : IVec S_ 1 := cmpi .slt main_arg2 main_c_6
  let main_v14 : IVec S_ 1 := andi main_v12 main_v13
  let main_v15 : IVec S_ 1 := andi main_v5 main_v11
  fn_part1 (F := F) main_v14 main_v15
-- ==== Kernel.lean ====
abbrev S1024 : Shape := ⟨1, ![1024]⟩
abbrev S1024x1024 : Shape := ⟨2, ![1024, 1024]⟩
abbrev S_ : Shape := ⟨0, ![]⟩
abbrev S32x64 : Shape := ⟨2, ![32, 64]⟩
abbrev S8x64 : Shape := ⟨2, ![8, 64]⟩
abbrev S1000x64 : Shape := ⟨2, ![1000, 64]⟩
abbrev S1024x1024x64 : Shape := ⟨3, ![1024, 1024, 64]⟩
abbrev S1 : Shape := ⟨1, ![1]⟩
abbrev S8x128 : Shape := ⟨2, ![8, 128]⟩
abbrev S1024x64 : Shape := ⟨2, ![1024, 64]⟩
abbrev S1x64 : Shape := ⟨2, ![1, 64]⟩
abbrev S64 : Shape := ⟨1, ![64]⟩
abbrev S8x1024 : Shape := ⟨2, ![8, 1024]⟩
abbrev S8x1024x64 : Shape := ⟨3, ![8, 1024, 64]⟩
abbrev S8x1024x8 : Shape := ⟨3, ![8, 1024, 8]⟩
abbrev S8x1024x1 : Shape := ⟨3, ![8, 1024, 1]⟩
abbrev S8192x8 : Shape := ⟨2, ![8192, 8]⟩
abbrev S8192x64 : Shape := ⟨2, ![8192, 64]⟩
abbrev S8x128x32 : Shape := ⟨3, ![8, 128, 32]⟩
abbrev S8x128x1 : Shape := ⟨3, ![8, 128, 1]⟩
abbrev S1024x32 : Shape := ⟨2, ![1024, 32]⟩
abbrev S8x1000 : Shape := ⟨2, ![8, 1000]⟩

abbrev nBuf : Space → Nat
  | .hbm => 12
  | .vmem => 10
  | .smem => 1
  | _ => 0

abbrev bufTy : (tb : Table) → Fin (tcTables nBuf tb) → BufTy
  | .hbm, ⟨0, _⟩ => ⟨S1024, .i32⟩
  | .hbm, ⟨1, _⟩ => ⟨S1024x1024, .i32⟩
  | .hbm, ⟨2, _⟩ => ⟨S_, .i32⟩
  | .hbm, ⟨3, _⟩ => ⟨S32x64, .f32⟩
  | .hbm, ⟨4, _⟩ => ⟨S8x64, .f32⟩
  | .hbm, ⟨5, _⟩ => ⟨S1000x64, .f32⟩
  | .hbm, ⟨6, _⟩ => ⟨S1024x1024x64, .f32⟩
  | .hbm, ⟨7, _⟩ => ⟨S1, .i32⟩
  | .hbm, ⟨8, _⟩ => ⟨S8x128, .i32⟩
  | .hbm, ⟨9, _⟩ => ⟨S1024x64, .f32⟩
  | .hbm, ⟨10, _⟩ => ⟨S1x64, .f32⟩
  | .hbm, ⟨11, _⟩ => ⟨S64, .f32⟩
  | .local _ .vmem, ⟨0, _⟩ => ⟨S8x1024, .i32⟩
  | .local _ .vmem, ⟨1, _⟩ => ⟨S8x1024, .i32⟩
  | .local _ .vmem, ⟨2, _⟩ => ⟨S8x64, .f32⟩
  | .local _ .vmem, ⟨3, _⟩ => ⟨S8x1024x64, .f32⟩
  | .local _ .vmem, ⟨4, _⟩ => ⟨S8x1024x64, .f32⟩
  | .local _ .vmem, ⟨5, _⟩ => ⟨S8x128, .i32⟩
  | .local _ .vmem, ⟨6, _⟩ => ⟨S32x64, .f32⟩
  | .local _ .vmem, ⟨7, _⟩ => ⟨S1000x64, .f32⟩
  | .local _ .vmem, ⟨8, _⟩ => ⟨S1024x64, .f32⟩
  | .local _ .vmem, ⟨9, _⟩ => ⟨S1x64, .f32⟩
  | .local _ .smem, ⟨0, _⟩ => ⟨S1, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_1 : Ref sig .tc := ⟨.hbm, 6, rfl⟩
abbrev main_call0_v1 : Ref sig .tc := ⟨.hbm, 7, rfl⟩
abbrev main_call0_v2 : Ref sig .tc := ⟨.hbm, 8, rfl⟩
abbrev main_v0_0 : Ref sig .tc := ⟨.hbm, 9, rfl⟩
abbrev main_call0_v3_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .smem S1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1000x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S1024 : Shape := ⟨1, ![1024]⟩
abbrev S1024x1024 : Shape := ⟨2, ![1024, 1024]⟩
abbrev S_ : Shape := ⟨0, ![]⟩
abbrev S32x64 : Shape := ⟨2, ![32, 64]⟩
abbrev S8x64 : Shape := ⟨2, ![8, 64]⟩
abbrev S1000x64 : Shape := ⟨2, ![1000, 64]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S1024x1024x1 : Shape := ⟨3, ![1024, 1024, 1]⟩
abbrev S1x1x1 : Shape := ⟨3, ![1, 1, 1]⟩
abbrev S1024x1024x64 : Shape := ⟨3, ![1024, 1024, 64]⟩
abbrev S64 : Shape := ⟨1, ![64]⟩

abbrev nBuf : Space → Nat
  | .hbm => 71
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024x1024, .i32⟩
  | .hbm, ⟨2, _⟩ => ⟨S_, .i32⟩
  | .hbm, ⟨3, _⟩ => ⟨S32x64, .f32⟩
  | .hbm, ⟨4, _⟩ => ⟨S8x64, .f32⟩
  | .hbm, ⟨5, _⟩ => ⟨S1000x64, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1, .i32⟩
  | .hbm, ⟨15, _⟩ => ⟨S_, .i32⟩
  | .hbm, ⟨16, _⟩ => ⟨S1024x1, .i32⟩
  | .hbm, ⟨17, _⟩ => ⟨S1024x1, .i1⟩
  | .hbm, ⟨18, _⟩ => ⟨S1x1, .i32⟩
  | .hbm, ⟨19, _⟩ => ⟨S1024x1, .i32⟩
  | .hbm, ⟨20, _⟩ => ⟨S1024x1, .i1⟩
  | .hbm, ⟨21, _⟩ => ⟨S1024x1, .i1⟩
  | .hbm, ⟨22, _⟩ => ⟨S_, .i1⟩
  | .hbm, ⟨23, _⟩ => ⟨S1024, .i1⟩
  | .hbm, ⟨24, _⟩ => ⟨S1024x64, .f32⟩
  | .hbm, ⟨25, _⟩ => ⟨S1024x64, .i1⟩
  | .hbm, ⟨26, _⟩ => ⟨S_, .f32⟩
  | .hbm, ⟨27, _⟩ => ⟨S1024x64, .f32⟩
  | .hbm, ⟨28, _⟩ => ⟨S1024x64, .f32⟩
  | .hbm, ⟨29, _⟩ => ⟨S_, .i32⟩
  | .hbm, ⟨30, _⟩ => ⟨S1024x1024, .i32⟩
  | .hbm, ⟨31, _⟩ => ⟨S1024x1024, .i1⟩
  | .hbm, ⟨32, _⟩ => ⟨S_, .i32⟩
  | .hbm, ⟨33, _⟩ => ⟨S1024x1024, .i32⟩
  | .hbm, ⟨34, _⟩ => ⟨S1024x1024, .i32⟩
  | .hbm, ⟨35, _⟩ => ⟨S1024x1024, .i32⟩
  | .hbm, ⟨36, _⟩ => ⟨S1024x1024x1, .i32⟩
  | .hbm, ⟨37, _⟩ => ⟨S1, .i32⟩
  | .hbm, ⟨38, _⟩ => ⟨S_, .i32⟩
  | .hbm, ⟨39, _⟩ => ⟨S1024x1024x1, .i32⟩
  | .hbm, ⟨40, _⟩ => ⟨S1024x1024x1, .i1⟩
  | .hbm, ⟨41, _⟩ => ⟨S1x1x1, .i32⟩
  | .hbm, ⟨42, _⟩ => ⟨S1024x1024x1, .i32⟩
  | .hbm, ⟨43, _⟩ => ⟨S1024x1024x1, .i1⟩
  | .hbm, ⟨44, _⟩ => ⟨S1024x1024x1, .i1⟩
  | .hbm, ⟨45, _⟩ => ⟨S_, .i1⟩
  | .hbm, ⟨46, _⟩ => ⟨S1024x1024, .i1⟩
  | .hbm, ⟨47, _⟩ => ⟨S1024x1024x64, .f32⟩
  | .hbm, ⟨48, _⟩ => ⟨S1024x1024x64, .i1⟩
  | .hbm, ⟨49, _⟩ => ⟨S_, .f32⟩
  | .hbm, ⟨50, _⟩ => ⟨S1024x1024x64, .f32⟩
  | .hbm, ⟨51, _⟩ => ⟨S1024x1024x64, .f32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S1, .i1⟩
  | .hbm, ⟨63, _⟩ => ⟨S1, .i1⟩
  | .hbm, ⟨64, _⟩ => ⟨S_, .i1⟩
  | .hbm, ⟨65, _⟩ => ⟨S_, .i1⟩
  | .hbm, ⟨66, _⟩ => ⟨S64, .f32⟩
  | .hbm, ⟨67, _⟩ => ⟨S64, .i1⟩
  | .hbm, ⟨68, _⟩ => ⟨S_, .f32⟩
  | .hbm, ⟨69, _⟩ => ⟨S64, .f32⟩
  | .hbm, ⟨70, _⟩ => ⟨S64, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_call2_c : Ref sig .tc := ⟨.hbm, 52, rfl⟩
abbrev main_call2_v0 : Ref sig .tc := ⟨.hbm, 53, rfl⟩
abbrev main_call2_c_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_c_1 : Ref sig .tc := ⟨.hbm, 58, rfl⟩
abbrev main_call2_c_2 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_c_3 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_cst : Ref sig .tc := ⟨.hbm, 68, rfl⟩
abbrev main_call2_v11 : Ref sig .tc := ⟨.hbm, 69, rfl⟩
abbrev main_v2 : Ref sig .tc := ⟨.hbm, 70, rfl⟩

abbrev nD : Nat := 1
abbrev τ : Topo := Topo.v7x

variable {F : FTy → Type} [FloatOps F]
-- ==== Proof.KernelRun.lean ====
/- The kernel's run: it ends with its three results at the contents the run's last valuation gives them and its
   arguments unchanged; and what that valuation holds at the three results, in terms of the
   arrays the two launches leave. -/
module

public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel started from any memory with its counters at zero comes to its end without a fault. Its three results
    then hold what the last valuation says of them, and its six arguments hold what they held at the start. The launch
    set-up is that of the generated frame; what is added is that the results are kept. -/
theorem run : θ_run defs (onTc (τ := τ) (main (F := F))) ⟨m, fun _ => 0, ρ⟩ (fun r => ∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_v0_2) = W4 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v0_0 (by decide)),
       h c _ (mem_uc main_v0_1 (by decide)),
       h c _ (mem_uc main_v0_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The edge result: nothing after the first launch writes it, so it ends as that launch leaves it. -/
theorem last_edges (c : Dev nD) : W4 m ρ c (Proc.devRef .tc main_v0_1) = (dat0 (V0 m ρ) c).arrAt 2 cfg0.N :=
  (W4_of m ρ c main_v0_1 (by decide)).trans <| (W3_of_ne m ρ c main_v0_1 (by decide)).trans <|
    (W2_of m ρ c main_v0_1 (by decide)).trans (W1_arr m ρ c 2)

/-- The node result: the second launch leaves it, and the reshape that follows does not write it. -/
theorem last_nodes (c : Dev nD) : W4 m ρ c (Proc.devRef .tc main_v0_0) = (dat1 (V2 m ρ) c).arrAt 4 cfg1.N :=
  (W4_of m ρ c main_v0_0 (by decide)).trans (W3_arr m ρ c 4)

/-- The time result: the second launch's one row of 64, read as a vector. -/
theorem last_time (c : Dev nD) : W4 m ρ c (Proc.devRef .tc main_v0_2)
    = shapeCast S64 ((dat1 (V2 m ρ) c).arrAt 5 cfg1.N) shapeCasts_S1x64_S64 := by
  show StableHlo.after hostOps2 (W3 m ρ c) (Proc.devRef .tc main_v0_2) = _
  rw [← W3_arr m ρ c 5]
  after_results
  rfl

/-- The time word as the second launch reads it: the scalar argument as a vector of one word. -/
theorem entry_time (c : Dev nD) : V2 m ρ c main_call0_v1
    = shapeCast S1 (m ((c : Thread nD τ).loc main_arg2)) shapeCasts_S_S1 := by
  show StableHlo.after hostOps1 (W1 m ρ c) (Proc.devRef .tc main_call0_v1) = _
  rw [← W1_args m ρ c main_arg2 (by decide)]
  after_results
  rfl

/-- The node words as the second launch reads them: the vector of 1024 words as eight rows of 128. -/
theorem entry_nodes (c : Dev nD) : V2 m ρ c main_call0_v2
    = shapeCast S8x128 (m ((c : Thread nD τ).loc main_arg0)) shapeCasts_S1024_S8x128 := by
  show StableHlo.after hostOps1 (W1 m ρ c) (Proc.devRef .tc main_call0_v2) = _
  rw [← W1_args m ρ c main_arg0 (by decide)]
  after_results
  rfl

/-- The node table as the second launch reads it: the argument. -/
theorem entry_node_table (c : Dev nD) : V2 m ρ c main_arg3 = m ((c : Thread nD τ).loc main_arg3) :=
  W2_args m ρ c main_arg3 (by decide)

/-- The time table as the second launch reads it: the argument. -/
theorem entry_time_table (c : Dev nD) : V2 m ρ c main_arg5 = m ((c : Thread nD τ).loc main_arg5) :=
  W2_args m ρ c main_arg5 (by decide)

end Cert.KernelRun

end
-- ==== Proof.Lookup.lean ====
/- The mathematics of one table lookup, apart from any program: which row of a table an index word names, and that
   multiplying the table by the row of zeros and a single one that marks this word gives exactly that row. -/
module

public import Idealize.ShloMosaic.PureOps.Ideal
public import Idealize.ShloMosaic.Lib.Pointwise

@[expose] public section

noncomputable section

namespace Cert.Lookup

open Idealize.ShloMosaic

/-- The row of a table of `n` rows that the index word `w` names: its value as a natural number, kept below `n`.
    In all that follows the word is in range, so that nothing is cut off. -/
def row (n : ℕ) (hn : 0 < n) (w : BitVec 32) : Fin n := ⟨min w.toNat (n - 1), by omega⟩

/-- On a word in range, the row it names is its value. -/
theorem row_val {n : ℕ} (hn : 0 < n) {w : BitVec 32} (hw : w.toNat < n) : (row n hn w).val = w.toNat := by
  show min w.toNat (n - 1) = w.toNat
  omega

/-- A word in range is the word of the row it names. -/
theorem ofNat_row {n : ℕ} (hn : 0 < n) {w : BitVec 32} (hw : w.toNat < n) : BitVec.ofNat 32 (row n hn w).val = w := by
  rw [row_val hn hw]
  exact BitVec.eq_of_toNat_eq (by rw [BitVec.toNat_ofNat]; exact Nat.mod_eq_of_lt w.isLt)

/-- Among the numbers below `n` a word in range equals the word of one only, its row. -/
theorem eq_ofNat_iff {n : ℕ} (hn : 0 < n) {w : BitVec 32} (hw : w.toNat < n) (hn' : n ≤ 2 ^ 32) (k : Fin n) :
    w = BitVec.ofNat 32 k.val ↔ k = row n hn w := by
  constructor
  · intro h
    refine Fin.ext ?_
    rw [row_val hn hw, h, BitVec.toNat_ofNat]
    exact (Nat.mod_eq_of_lt (by omega)).symm
  · rintro rfl
    exact (ofNat_row hn hw).symm

/-- A comparison's bit, widened to a word and converted to an extended real: one where the two words are equal, zero
    where they are not. -/
theorem sitofp_eq_bit (a b : BitVec 32) :
    (FloatOps.sitofp (F := Ideal) .f32 (BitVec.setWidth 32 (IntOp.cmpi .eq a b)) : EReal) = if a = b then 1 else 0 := by
  by_cases h : a = b
  · subst h
    rw [IntOp.cmpi_eq_self, if_pos rfl]
    show (((BitVec.setWidth 32 (1#1 : BitVec 1)).toInt : ℝ) : EReal) = 1
    have e : (BitVec.setWidth 32 (1#1 : BitVec 1)).toInt = 1 := by decide
    rw [e]
    simp
  · have e : IntOp.cmpi .eq a b = 0#1 := by
      show BitVec.ofBool (a == b) = 0#1
      rw [beq_eq_false_iff_ne.2 h]
      rfl
    rw [e, if_neg h]
    show (((BitVec.setWidth 32 (0#1 : BitVec 1)).toInt : ℝ) : EReal) = 0
    have e : (BitVec.setWidth 32 (0#1 : BitVec 1)).toInt = 0 := by decide
    rw [e]
    simp

/-- A column of a table multiplied by the marks of one row is the column's entry in that row: every other term is zero
    times an extended real, which is zero whatever that extended real is. -/
theorem sum_mark {n : ℕ} (r : Fin n) (f : Fin n → EReal) : ∑ k : Fin n, (if k = r then (1 : EReal) else 0) * f k = f r := by
  rw [Finset.sum_eq_single r (fun k _ hk => by rw [if_neg hk, zero_mul]) (fun h => absurd (Finset.mem_univ r) h),
    if_pos rfl, one_mul]

/-- ONE LOOKUP, the index word on the comparison's left: the marks of the word times a column of the table are the
    column's entry in the row the word names. -/
theorem sum_onehot {n : ℕ} (hn : 0 < n) (hn' : n ≤ 2 ^ 32) {w : BitVec 32} (hw : w.toNat < n) (f : Fin n → EReal) :
    ∑ k : Fin n, (FloatOps.sitofp (F := Ideal) .f32 (BitVec.setWidth 32 (IntOp.cmpi .eq w (BitVec.ofNat 32 k.val))) : EReal)
      * f k = f (row n hn w) := by
  rw [← sum_mark (row n hn w) f]
  refine Finset.sum_congr rfl fun k _ => ?_
  rw [sitofp_eq_bit]
  simp only [eq_ofNat_iff hn hw hn' k]

/-- ONE LOOKUP, the index word on the comparison's right. -/
theorem sum_onehot' {n : ℕ} (hn : 0 < n) (hn' : n ≤ 2 ^ 32) {w : BitVec 32} (hw : w.toNat < n) (f : Fin n → EReal) :
    ∑ k : Fin n, (FloatOps.sitofp (F := Ideal) .f32 (BitVec.setWidth 32 (IntOp.cmpi .eq (BitVec.ofNat 32 k.val) w)) : EReal)
      * f k = f (row n hn w) := by
  rw [← sum_mark (row n hn w) f]
  refine Finset.sum_congr rfl fun k _ => ?_
  rw [sitofp_eq_bit]
  simp only [eq_comm (a := BitVec.ofNat 32 k.val), eq_ofNat_iff hn hw hn' k]

end Cert.Lookup

end
-- ==== Proof.KernelBlocks.lean ====
/- What the kernel's two bodies compute from the blocks they read, entry by entry: the table's row that the block's
   index word names. The words are assumed in range; nothing is assumed of the tables. -/
module

public import proofs.«01_k».proof.Proof.Gen.KernelIdeal.Skeleton
public import proofs.«01_k».proof.Proof.Lookup
public import Idealize.ShloMosaic.Lib.Pointwise

@[expose] public section

noncomputable section

namespace Cert.KernelBlocks

open Idealize.ShloMosaic Cert.KernelIdeal Cert.KernelIdeal.Gen Cert.Lookup

set_option maxRecDepth 16384 in
/-- The edge body on a block of eight rows of edge words and the edge table: entry `(r, q, d)` is column `d` of the
    table's row named by the word at `(r, q)`. -/
theorem edge_block (e : Vec Ideal S8x1024 .i32) (T : Vec Ideal S8x64 .f32) (r : Fin 8) (q : Fin 1024) (d : Fin 64)
    (h : (e (ix2 r q)).toNat < 8) :
    k0_pay1 (F := Ideal) e T (ix3 r q d) = T (ix2 (row 8 (by decide) (e (ix2 r q))) d) := by
  pointwise [k0_pay1]
  exact sum_onehot (by decide) (by decide) h (fun k => T (ix2 k d))

set_option maxRecDepth 16384 in
/-- The small body's node result, from the node words laid out as eight rows of 128 and the node table: entry `(r, d)`
    is column `d` of the table's row named by word number `r`. -/
theorem node_block (e : Vec Ideal S8x128 .i32) (T : Vec Ideal S32x64 .f32) (r : Fin 1024) (d : Fin 64) (w : BitVec 32)
    (hw : e (ix2 ⟨r.val / 128, by omega⟩ ⟨r.val % 128, by omega⟩) = w) (h : w.toNat < 32) :
    k1_pay1 (F := Ideal) e T (ix2 r d) = T (ix2 (row 32 (by decide) w) d) := by
  subst hw
  pointwise [k1_pay1]
  exact sum_onehot (by decide) (by decide) h (fun k => T (ix2 k d))

set_option maxRecDepth 16384 in
/-- The small body's time result, from the time word and the time table: entry `(0, d)` is column `d` of the table's row
    named by the word. -/
theorem time_block (w : BitVec 32) (T : Vec Ideal S1000x64 .f32) (r : Fin 1) (d : Fin 64) (h : w.toNat < 1000) :
    k1_pay2 (F := Ideal) w T (ix2 r d) = T (ix2 (row 1000 (by decide) w) d) := by
  pointwise [k1_pay2]
  exact sum_onehot' (by decide) (by decide) h (fun k => T (ix2 k d))

end Cert.KernelBlocks

end
-- ==== Proof.Arrays.lean ====
/- The three results as they are to be: each is a table's rows, taken at the index words. Both programs are shown to end
   with these arrays. -/
module

public import proofs.«01_k».proof.Proof.Lookup

@[expose] public section

noncomputable section

namespace Cert.Arrays

open Idealize.ShloMosaic Cert.Lookup

/-- The node result: entry `(i, d)` is column `d` of the node table's row named by node word `i`. -/
def nodeRows (w : (⟨1, ![1024]⟩ : Shape).Idx → BitVec 32) (T : (⟨2, ![32, 64]⟩ : Shape).Idx → EReal) :
    (⟨2, ![1024, 64]⟩ : Shape).Idx → EReal := fun y => T (ix2 (row 32 (by decide) (w (ix1 (y 0)))) (y 1))

/-- The edge result: entry `(i, j, d)` is column `d` of the edge table's row named by edge word `(i, j)`. -/
def edgeRows (w : (⟨2, ![1024, 1024]⟩ : Shape).Idx → BitVec 32) (T : (⟨2, ![8, 64]⟩ : Shape).Idx → EReal) :
    (⟨3, ![1024, 1024, 64]⟩ : Shape).Idx → EReal := fun y => T (ix2 (row 8 (by decide) (w (ix2 (y 0) (y 1)))) (y 2))

/-- The time result: entry `d` is column `d` of the time table's row named by the time word. -/
def timeRow (w : (⟨0, ![]⟩ : Shape).Idx → BitVec 32) (T : (⟨2, ![1000, 64]⟩ : Shape).Idx → EReal) :
    (⟨1, ![64]⟩ : Shape).Idx → EReal := fun y => T (ix2 (row 1000 (by decide) (w ix0)) (y 0))

end Cert.Arrays

end
-- ==== Proof.KernelArrays.lean ====
/- The kernel's result arrays, entry by entry: what the two launches leave in them, from the blocks each grid point reads
   and writes. -/
module

public import proofs.«01_k».proof.Proof.KernelRun
public import proofs.«01_k».proof.Proof.KernelBlocks
public import proofs.«01_k».proof.Proof.Arrays
public import Idealize.ShloMosaic.Lib.Pipeline.ValueKit
public import Idealize.ShloMosaic.Lib.Pipeline.Covers
public import Idealize.ShloMosaic.Lib.Pipeline.ReadBack

@[expose] public section

set_option maxRecDepth 16384

noncomputable section

namespace Cert.KernelArrays

open Cert.KernelIdeal Cert.KernelIdeal.Gen Cert.Lookup Cert.Arrays
open Idealize.ShloMosaic Idealize.ShloMosaic.TcCoe Idealize.SL.Sem

variable (c : Dev nD)

/-! ### The first launch: 128 blocks of eight rows -/

/-- Where the blocks of the first launch lie: at grid point `t` the words' and the result's block start at row `8 t`,
    the table's block is the whole table. -/
theorem index0 (t : Fin cfg0.N) : win0_0.index t = ![t.val, 0] ∧ win0_1.index t = ![0, 0] ∧ win0_2.index t = ![t.val, 0, 0] := by
  revert t; decide +kernel

/-- There are 128 grid points. -/
theorem point_lt (t : Fin cfg0.N) : t.val < 128 := lt_of_lt_of_eq t.isLt N_0

/-- The edge words' block at point `t`: row `r` of the block is row `8 t + r` of the argument. -/
theorem words0 (V : (c : Dev nD) → (b : Ref sig .tc) → Buf (Elt Ideal) ((c : Thread nD τ).loc b)) (t : Fin cfg0.N)
    (r : Fin 8) (q : Fin 1024) (hr : t.val * 8 + r.val < 1024) :
    iblk0 V c 0 t (ix2 r q) = V c main_arg1 (ix2 ⟨t.val * 8 + r.val, hr⟩ q) := by
  blk_ext [iblk0, (index0 t).1]

/-- The edge table's block at every point: the table. -/
theorem table0 (V : (c : Dev nD) → (b : Ref sig .tc) → Buf (Elt Ideal) ((c : Thread nD τ).loc b)) (t : Fin cfg0.N)
    (k : Fin 8) (d : Fin 64) : iblk0 V c 1 t (ix2 k d) = V c main_arg4 (ix2 k d) := by
  blk_ext [iblk0, (index0 t).2.1]

/-- THE EDGE RESULT after the first launch: the edge table's rows at the edge words. -/
theorem edges (V : (c : Dev nD) → (b : Ref sig .tc) → Buf (Elt Ideal) ((c : Thread nD τ).loc b))
    (h : ∀ r q : Fin 1024, (V c main_arg1 (ix2 r q)).toNat < 8) :
    (dat0 V c).arrAt 2 cfg0.N = edgeRows (V c main_arg1) (V c main_arg4) := by
  refine (dat0 V c).arrAt_eq_of_covers 2 _ (by decide +kernel) fun t hf y => ?_
  obtain ⟨r, q, d, rfl⟩ : ∃ (r : Fin 8) (q : Fin 1024) (d : Fin 64), y = ix3 r q d := ⟨y 0, y 1, y 2, eq_ix3 y⟩
  have ht := point_lt t
  have hr : t.val * 8 + r.val < 1024 := by omega
  blk_simp
  rw [after0_2]
  frame_out
  have hw := words0 c V t r q hr
  refine (KernelBlocks.edge_block _ _ r q d (by rw [hw]; exact h _ _)).trans ?_
  rw [hw]
  refine (table0 c V t _ d).trans ?_
  have he : ((View.whole main_v0_1).slice (win0_2.rect t)).emb (ix3 r q d) = ix3 ⟨t.val * 8 + r.val, hr⟩ q d := by
    blk_ext [(index0 t).2.2]
  rw [he]
  rfl

/-! ### The second launch: one point, every block a whole array -/

/-- Where the blocks of the second launch lie: each is its whole array. -/
theorem index1 : win1_0.index t1_0 = ![0] ∧ win1_1.index t1_0 = ![0, 0] ∧ win1_2.index t1_0 = ![0, 0]
    ∧ win1_3.index t1_0 = ![0, 0] := by decide +kernel

/-- The time word's block: the one word. -/
theorem word1 (V : (c : Dev nD) → (b : Ref sig .tc) → Buf (Elt Ideal) ((c : Thread nD τ).loc b)) (i : Fin 1) :
    iblk1 V c 0 t1_0 (ix1 i) = V c main_call0_v1 (ix1 i) := by
  blk_ext [iblk1, index1.1]

/-- The node words' block: the eight rows of 128 words. -/
theorem words1 (V : (c : Dev nD) → (b : Ref sig .tc) → Buf (Elt Ideal) ((c : Thread nD τ).loc b)) (a : Fin 8) (b : Fin 128) :
    iblk1 V c 1 t1_0 (ix2 a b) = V c main_call0_v2 (ix2 a b) := by
  blk_ext [iblk1, index1.2.1]

/-- The node table's block: the table. -/
theorem nodeTable1 (V : (c : Dev nD) → (b : Ref sig .tc) → Buf (Elt Ideal) ((c : Thread nD τ).loc b)) (k : Fin 32) (d : Fin 64) :
    iblk1 V c 2 t1_0 (ix2 k d) = V c main_arg3 (ix2 k d) := by
  blk_ext [iblk1, index1.2.2.1]

/-- The time table's block: the table. -/
theorem timeTable1 (V : (c : Dev nD) → (b : Ref sig .tc) → Buf (Elt Ideal) ((c : Thread nD τ).loc b)) (k : Fin 1000) (d : Fin 64) :
    iblk1 V c 3 t1_0 (ix2 k d) = V c main_arg5 (ix2 k d) := by
  blk_ext [iblk1, index1.2.2.2]

/-- THE NODE RESULT after the second launch: the node table's rows at the node words. -/
theorem nodes (V : (c : Dev nD) → (b : Ref sig .tc) → Buf (Elt Ideal) ((c : Thread nD τ).loc b)) (w : IVec S1024 32)
    (hV : V c main_call0_v2 = shapeCast S8x128 w shapeCasts_S1024_S8x128) (h : ∀ r : Fin 1024, (w (ix1 r)).toNat < 32) :
    (dat1 V c).arrAt 4 cfg1.N = nodeRows w (V c main_arg3) := by
  refine (dat1 V c).arrAt_eq_of_after_last 4 t1_0 (by decide +kernel) _ fun j => ?_
  obtain ⟨r, d, rfl⟩ : ∃ (r : Fin 1024) (d : Fin 64), j = ix2 r d := ⟨j 0, j 1, eq_ix2 j⟩
  blk_simp
  rw [after1_4]
  unfold outsAt1
  frame_out
  simp only [read_unread_whole]
  have hw : iblk1 V c 1 t1_0 (ix2 (⟨r.val / 128, by omega⟩ : Fin 8) (⟨r.val % 128, by omega⟩ : Fin 128)) = w (ix1 r) := by
    rw [words1, hV]
    pointwise
  exact (KernelBlocks.node_block _ _ r d _ hw (h r)).trans (nodeTable1 c V _ d)

/-- The second launch's time row: entry `(0, d)` is column `d` of the time table's row named by the time word. -/
theorem timeRow1 (V : (c : Dev nD) → (b : Ref sig .tc) → Buf (Elt Ideal) ((c : Thread nD τ).loc b)) (w : IVec S_ 32)
    (hV : V c main_call0_v1 = shapeCast S1 w shapeCasts_S_S1) (h : (w ix0).toNat < 1000) :
    (dat1 V c).arrAt 5 cfg1.N = (fun y => timeRow w (V c main_arg5) (ix1 (y 1)) : (⟨2, ![1, 64]⟩ : Shape).Idx → EReal) := by
  refine (dat1 V c).arrAt_eq_of_after_last 5 t1_0 (by decide +kernel) _ fun j => ?_
  obtain ⟨r, d, rfl⟩ : ∃ (r : Fin 1) (d : Fin 64), j = ix2 r d := ⟨j 0, j 1, eq_ix2 j⟩
  blk_simp
  rw [after1_5]
  unfold outsAt1
  frame_out
  simp only [read_unread_whole]
  have hw : ∀ i : S1.Idx, iblk1 V c 0 t1_0 i = w ix0 := fun i => by
    obtain ⟨k, rfl⟩ : ∃ k : Fin 1, i = ix1 k := ⟨i 0, eq_ix1 i⟩
    rw [word1, hV]
    pointwise
  refine (KernelBlocks.time_block _ _ r d ?_).trans ?_
  · rw [hw]; exact h
  refine (timeTable1 c V _ d).trans ?_
  exact congrArg (fun x => V c main_arg5 (ix2 (row 1000 (by decide) x) d)) (hw _)

/-- THE TIME RESULT after the reshape that follows the second launch: the time table's row at the time word. -/
theorem time (V : (c : Dev nD) → (b : Ref sig .tc) → Buf (Elt Ideal) ((c : Thread nD τ).loc b)) (w : IVec S_ 32)
    (hV : V c main_call0_v1 = shapeCast S1 w shapeCasts_S_S1) (h : (w ix0).toNat < 1000) :
    (shapeCast S64 ((dat1 V c).arrAt 5 cfg1.N) shapeCasts_S1x64_S64 : S64.Idx → EReal) = timeRow w (V c main_arg5) := by
  rw [timeRow1 c V w hV h]
  funext y
  obtain ⟨d, rfl⟩ : ∃ (d : Fin 64), y = ix1 d := ⟨y 0, eq_ix1 y⟩
  pointwise

end Cert.KernelArrays

end
-- ==== Proof.Words.lean ====
/- Signed comparisons of index words, and conjunctions of them, read as statements about the words' values. -/
module

public import Idealize.ShloMosaic.PureOps.Ideal
public import Idealize.ShloMosaic.Lib.Pointwise

@[expose] public section

noncomputable section

namespace Cert.Words

open Idealize.ShloMosaic

/-- A conjunction of two bits is set exactly when both are. -/
theorem andi_eq_one (a b : BitVec 1) : IntOp.andi a b = 1#1 ↔ a = 1#1 ∧ b = 1#1 := by
  revert a b; decide

/-- The conjunction of a finite family of bits, started from a set bit, is set exactly when each of them is. -/
theorem fold_andi_eq_one {ι : Type} (s : Finset ι) (f : ι → BitVec 1) :
    Finset.fold IntOp.andi (1#1) f s = 1#1 ↔ ∀ k ∈ s, f k = 1#1 := by
  classical
  induction s using Finset.induction_on with
  | empty => simp
  | insert a s ha ih => rw [Finset.fold_insert ha, andi_eq_one, ih, Finset.forall_mem_insert]

/-- A comparison's bit is set exactly when the comparison holds. -/
theorem ofBool_eq_one (b : Bool) : BitVec.ofBool b = 1#1 ↔ b = true := by
  revert b; decide

/-- A word is, as a signed number, at least zero and below `n`, exactly when its value is below `n`. -/
theorem inRange_iff {n : ℕ} (hn : n < 2 ^ 31) (w : BitVec 32) :
    IntOp.andi (IntOp.cmpi .sge w 0#32) (IntOp.cmpi .slt w (BitVec.ofNat 32 n)) = 1#1 ↔ w.toNat < n := by
  rw [andi_eq_one]
  show BitVec.ofBool (BitVec.sle 0#32 w) = 1#1 ∧ BitVec.ofBool (BitVec.slt w (BitVec.ofNat 32 n)) = 1#1 ↔ _
  rw [ofBool_eq_one, ofBool_eq_one, BitVec.sle_iff_toInt_le, BitVec.slt_iff_toInt_lt, BitVec.toInt_eq_toNat_cond w,
    BitVec.toInt_eq_toNat_cond (BitVec.ofNat 32 n), BitVec.toNat_ofNat, Nat.mod_eq_of_lt (by omega : n < 2 ^ 32)]
  have hw : w.toNat < 2 ^ 32 := w.isLt
  have h0 : (0#32 : BitVec 32).toInt = 0 := by decide
  rw [h0]
  split <;> split <;> omega

/-- A word in range passes the reference's own test of its range: at least zero and at most the last row. -/
theorem inTable {n : ℕ} (hn : n < 2 ^ 31) {w : BitVec 32} (hw : w.toNat < n) :
    IntOp.andi (IntOp.cmpi .sge w 0#32) (IntOp.cmpi .sle w (BitVec.ofNat 32 (n - 1))) = 1#1 := by
  rw [andi_eq_one]
  show BitVec.ofBool (BitVec.sle 0#32 w) = 1#1 ∧ BitVec.ofBool (BitVec.sle w (BitVec.ofNat 32 (n - 1))) = 1#1
  rw [ofBool_eq_one, ofBool_eq_one, BitVec.sle_iff_toInt_le, BitVec.sle_iff_toInt_le, BitVec.toInt_eq_toNat_cond w,
    BitVec.toInt_eq_toNat_cond (BitVec.ofNat 32 (n - 1)), BitVec.toNat_ofNat, Nat.mod_eq_of_lt (by omega : n - 1 < 2 ^ 32)]
  have h0 : (0#32 : BitVec 32).toInt = 0 := by decide
  rw [h0]
  split <;> split <;> omega

/-- A word that is not negative is not wrapped: the reference adds the table's length to negative words only. -/
theorem wrap_eq {w : BitVec 32} (hw : w.toNat < 2 ^ 31) (l : BitVec 32) :
    Scalar.select (IntOp.cmpi .slt w 0#32) (IntOp.addi w l) w = w := by
  have e : IntOp.cmpi .slt w 0#32 = 0#1 := by
    show BitVec.ofBool (BitVec.slt w 0#32) = 0#1
    have : BitVec.slt w 0#32 = false := by
      rw [Bool.eq_false_iff, ne_eq, BitVec.slt_iff_toInt_lt, BitVec.toInt_eq_toNat_cond w]
      have h0 : (0#32 : BitVec 32).toInt = 0 := by decide
      rw [h0]
      split <;> omega
    rw [this]; rfl
  rw [e]; rfl

/-- A word in range, read as a signed number and cut off at the table's last row, is its value. -/
theorem clamp_eq {n : ℕ} (hn : n < 2 ^ 31) {w : BitVec 32} (hw : w.toNat < n) : min w.toInt.toNat (n - 1) = w.toNat := by
  rw [BitVec.toInt_eq_toNat_cond w]
  split <;> omega

end Cert.Words

end
-- ==== Proof.ReferenceRows.lean ====
/- The reference program's three result terms, entry by entry: on index words in range, each is the table's row that the
   word names. The reference wraps negative words, tests the range and fills with a constant outside it; on words in
   range none of the three acts. -/
module

public import proofs.«01_k».proof.Proof.Gen.ReferenceIdeal.Run
public import proofs.«01_k».proof.Proof.Arrays
public import proofs.«01_k».proof.Proof.Words
public import Idealize.ShloMosaic.Lib.Pointwise

@[expose] public section

set_option maxRecDepth 16384

noncomputable section

namespace Cert.ReferenceRows

open Idealize.ShloMosaic Cert.Lookup Cert.Words Cert.Arrays
open Cert.ReferenceIdeal Cert.ReferenceIdeal.Gen

/-! ### The gathers: each reads the row that its start word names -/

/-- The node gather at `(r, d)`: column `d` of the row named by the start word at `(r, 0)`. -/
theorem gather_nodes (T : FVec Ideal S32x64 .f32) (idx : IVec S1024x1 32) (r : Fin 1024) (d : Fin 64)
    (h : (idx (ix2 r 0)).toNat < 32) :
    Host.gather gather_S32x64_S1024x1_S1024x64_1_0_n_n_0_1_164 T idx (ix2 r d)
      = T (ix2 (row 32 (by decide) (idx (ix2 r 0))) d) := by
  unfold Host.gather
  refine congrArg T (funext fun a => Fin.ext ?_)
  match a with
  | ⟨0, _⟩ =>
    have hs : gather_S32x64_S1024x1_S1024x64_1_0_n_n_0_1_164.siIdx (ix2 r d) ⟨0, by decide⟩ = ix2 r 0 := by
      funext b; match b with | ⟨0, _⟩ => rfl | ⟨1, _⟩ => rfl
    show min (idx (gather_S32x64_S1024x1_S1024x64_1_0_n_n_0_1_164.siIdx (ix2 r d) ⟨0, by decide⟩)).toInt.toNat (32 - 1) + 0 + 0 = _
    rw [hs, clamp_eq (by decide) h]
    exact (row_val (by decide) h).symm
  | ⟨1, _⟩ => exact Nat.zero_add _

/-- The edge gather at `(r, q, d)`: column `d` of the row named by the start word at `(r, q, 0)`. -/
theorem gather_edges (T : FVec Ideal S8x64 .f32) (idx : IVec S1024x1024x1 32) (r q : Fin 1024) (d : Fin 64)
    (h : (idx (ix3 r q 0)).toNat < 8) :
    Host.gather gather_S8x64_S1024x1024x1_S1024x1024x64_2_0_n_n_0_2_164 T idx (ix3 r q d)
      = T (ix2 (row 8 (by decide) (idx (ix3 r q 0))) d) := by
  unfold Host.gather
  refine congrArg T (funext fun a => Fin.ext ?_)
  match a with
  | ⟨0, _⟩ =>
    have hs : gather_S8x64_S1024x1024x1_S1024x1024x64_2_0_n_n_0_2_164.siIdx (ix3 r q d) ⟨0, by decide⟩ = ix3 r q 0 := by
      funext b; match b with | ⟨0, _⟩ => rfl | ⟨1, _⟩ => rfl | ⟨2, _⟩ => rfl
    show min (idx (gather_S8x64_S1024x1024x1_S1024x1024x64_2_0_n_n_0_2_164.siIdx (ix3 r q d) ⟨0, by decide⟩)).toInt.toNat (8 - 1) + 0 + 0 = _
    rw [hs, clamp_eq (by decide) h]
    exact (row_val (by decide) h).symm
  | ⟨1, _⟩ => exact Nat.zero_add _

/-- The time gather at `d`: column `d` of the row named by the one start word. -/
theorem gather_time (T : FVec Ideal S1000x64 .f32) (idx : IVec S1 32) (d : Fin 64) (h : (idx (ix1 0)).toNat < 1000) :
    Host.gather gather_S1000x64_S1_S64_0_0_n_n_0_0_164 T idx (ix1 d) = T (ix2 (row 1000 (by decide) (idx (ix1 0))) d) := by
  unfold Host.gather
  refine congrArg T (funext fun a => Fin.ext ?_)
  match a with
  | ⟨0, _⟩ =>
    have hs : gather_S1000x64_S1_S64_0_0_n_n_0_0_164.siIdx (ix1 d) ⟨0, by decide⟩ = ix1 0 := by
      funext b; match b with | ⟨0, _⟩ => rfl
    show min (idx (gather_S1000x64_S1_S64_0_0_n_n_0_0_164.siIdx (ix1 d) ⟨0, by decide⟩)).toInt.toNat (1000 - 1) + 0 + 0 = _
    rw [hs, clamp_eq (by decide) h]
    exact (row_val (by decide) h).symm
  | ⟨1, _⟩ => exact Nat.zero_add _

/-! ### The index words the gathers start from -/

/-- The node words after the wrap of negative ones, as the gather reads them. -/
abbrev nodeStarts (a : IVec S1024 32) : IVec S1024x1 32 :=
  broadcastInDim S1024x1 ![0] bcast_S1024_S1024x1_0
    (select (cmpi .slt a (broadcastInDim S1024 ![] bcast_S_S1024 (constantI S_ 32 0#32)))
      (addi a (broadcastInDim S1024 ![] bcast_S_S1024 (constantI S_ 32 32#32))) a)

/-- A node word in range is the word the gather starts from. -/
theorem nodeStarts_apply (a : IVec S1024 32) (r : Fin 1024) (h : (a (ix1 r)).toNat < 32) : nodeStarts a (ix2 r 0) = a (ix1 r) := by
  pointwise [nodeStarts]
  exact wrap_eq (by omega) _

/-- The edge words after the wrap of negative ones, as the gather reads them. -/
abbrev edgeStarts (a : IVec S1024x1024 32) : IVec S1024x1024x1 32 :=
  broadcastInDim S1024x1024x1 ![0, 1] bcast_S1024x1024_S1024x1024x1_0_1
    (select (cmpi .slt a (broadcastInDim S1024x1024 ![] bcast_S_S1024x1024 (constantI S_ 32 0#32)))
      (addi a (broadcastInDim S1024x1024 ![] bcast_S_S1024x1024 (constantI S_ 32 8#32))) a)

/-- An edge word in range is the word the gather starts from. -/
theorem edgeStarts_apply (a : IVec S1024x1024 32) (r q : Fin 1024) (h : (a (ix2 r q)).toNat < 8) :
    edgeStarts a (ix3 r q 0) = a (ix2 r q) := by
  pointwise [edgeStarts]
  exact wrap_eq (by omega) _

/-- The time word after the wrap of a negative one, as the gather reads it. -/
abbrev timeStart (a : IVec S_ 32) : IVec S1 32 :=
  broadcastInDim S1 ![] bcast_S_S1 (select (cmpi .slt a (constantI S_ 32 0#32)) (addi a (constantI S_ 32 1000#32)) a)

/-- A time word in range is the word the gather starts from. -/
theorem timeStart_apply (a : IVec S_ 32) (h : (a ix0).toNat < 1000) : timeStart a (ix1 0) = a ix0 := by
  pointwise [timeStart]
  exact wrap_eq (by omega) _

/-! ### The results -/

/-- THE NODE RESULT of the reference: the node table's rows at the node words. -/
theorem nodes (a : IVec S1024 32) (T : FVec Ideal S32x64 .f32) (h : ∀ r : Fin 1024, (a (ix1 r)).toNat < 32) :
    select (broadcastInDim S1024x64 ![0] bcast_S1024_S1024x64_0 (Host.reduce IntOp.andi
      (andi (cmpi .sge (nodeStarts a) (broadcastInDim S1024x1 ![] bcast_S_S1024x1 (constantI S_ 32 0#32)))
        (cmpi .sle (nodeStarts a) (broadcastInDim S1024x1 ![0, 1] bcast_S1x1_S1024x1_0_1
          (broadcastInDim S1x1 ![1] bcast_S1_S1x1_1 (constantI S1 32 31#32)))))
      (constantI S_ 1 1#1) reducesTo_S1024x1_S1024_d1 h_S_))
      (Host.gather gather_S32x64_S1024x1_S1024x64_1_0_n_n_0_1_164 T (nodeStarts a))
      (broadcastInDim S1024x64 ![] bcast_S_S1024x64 (constant S_ .f32 0x7FC00000#32)) = nodeRows a T := by
  funext y
  obtain ⟨r, d, rfl⟩ : ∃ (r : Fin 1024) (d : Fin 64), y = ix2 r d := ⟨y 0, y 1, eq_ix2 y⟩
  have hs := nodeStarts_apply a r (h r)
  have hg := gather_nodes T (nodeStarts a) r d (by rw [hs]; exact h r)
  rw [hs] at hg
  pointwise
  rw [(fold_andi_eq_one _ _).2 fun k _ => ?_]
  · exact hg
  · rw [wrap_eq (by have := h r; omega)]
    exact inTable (n := 32) (by decide) (h r)

/-- THE EDGE RESULT of the reference: the edge table's rows at the edge words. -/
theorem edges (a : IVec S1024x1024 32) (T : FVec Ideal S8x64 .f32) (h : ∀ r q : Fin 1024, (a (ix2 r q)).toNat < 8) :
    select (broadcastInDim S1024x1024x64 ![0, 1] bcast_S1024x1024_S1024x1024x64_0_1 (Host.reduce IntOp.andi
      (andi (cmpi .sge (edgeStarts a) (broadcastInDim S1024x1024x1 ![] bcast_S_S1024x1024x1 (constantI S_ 32 0#32)))
        (cmpi .sle (edgeStarts a) (broadcastInDim S1024x1024x1 ![0, 1, 2] bcast_S1x1x1_S1024x1024x1_0_1_2
          (broadcastInDim S1x1x1 ![2] bcast_S1_S1x1x1_2 (constantI S1 32 7#32)))))
      (constantI S_ 1 1#1) reducesTo_S1024x1024x1_S1024x1024_d2 h_S_))
      (Host.gather gather_S8x64_S1024x1024x1_S1024x1024x64_2_0_n_n_0_2_164 T (edgeStarts a))
      (broadcastInDim S1024x1024x64 ![] bcast_S_S1024x1024x64 (constant S_ .f32 0x7FC00000#32)) = edgeRows a T := by
  funext y
  obtain ⟨r, q, d, rfl⟩ : ∃ (r q : Fin 1024) (d : Fin 64), y = ix3 r q d := ⟨y 0, y 1, y 2, eq_ix3 y⟩
  have hs := edgeStarts_apply a r q (h r q)
  have hg := gather_edges T (edgeStarts a) r q d (by rw [hs]; exact h r q)
  rw [hs] at hg
  pointwise
  rw [(fold_andi_eq_one _ _).2 fun k _ => ?_]
  · exact hg
  · rw [wrap_eq (by have := h r q; omega)]
    exact inTable (n := 8) (by decide) (h r q)

/-- THE TIME RESULT of the reference: the time table's row at the time word. -/
theorem time (a : IVec S_ 32) (T : FVec Ideal S1000x64 .f32) (h : (a ix0).toNat < 1000) :
    select (broadcastInDim S64 ![] bcast_S_S64 (Host.reduce IntOp.andi
      (andi (cmpi .sge (timeStart a) (broadcastInDim S1 ![] bcast_S_S1 (constantI S_ 32 0#32)))
        (cmpi .sle (timeStart a) (constantI S1 32 999#32)))
      (constantI S_ 1 1#1) reducesTo_S1_S_d0 h_S_))
      (Host.gather gather_S1000x64_S1_S64_0_0_n_n_0_0_164 T (timeStart a))
      (broadcastInDim S64 ![] bcast_S_S64 (constant S_ .f32 0x7FC00000#32)) = timeRow a T := by
  funext y
  obtain ⟨d, rfl⟩ : ∃ (d : Fin 64), y = ix1 d := ⟨y 0, eq_ix1 y⟩
  have hs := timeStart_apply a h
  have hg := gather_time T (timeStart a) d (by rw [hs]; exact h)
  rw [hs] at hg
  pointwise
  rw [(fold_andi_eq_one _ _).2 fun k _ => ?_]
  · exact hg
  · rw [wrap_eq (by omega)]
    exact inTable (n := 1000) (by decide) h

end Cert.ReferenceRows

end
-- ==== Proof.Precondition.lean ====
/- The precondition, read as what it says: every index word names a row of its table. -/
module

public import proofs.«01_k».proof.Proof.Gen.Pre_in_tables
public import proofs.«01_k».proof.Proof.Words

@[expose] public section

noncomputable section

namespace Cert.Precondition

open Idealize.ShloMosaic Cert.Words
open Cert.Pre_in_tables Cert.Pre_in_tables.Gen

set_option maxRecDepth 16384 in
/-- Where the precondition holds, every node word is below 32, every edge word below 8 and the time word below 1000. -/
theorem decode (a0 : IVec S1024 32) (a1 : IVec S1024x1024 32) (a2 : IVec S_ 32) (a3 : FVec Ideal S32x64 .f32)
    (a4 : FVec Ideal S8x64 .f32) (a5 : FVec Ideal S1000x64 .f32)
    (h : Cert.Pre_in_tables.fn (F := Ideal) a0 a1 a2 a3 a4 a5 = fun _ => 1#1) :
    (∀ r : Fin 1024, (a0 (ix1 r)).toNat < 32) ∧ (∀ (r q : Fin 1024), (a1 (ix2 r q)).toNat < 8) ∧ (a2 ix0).toNat < 1000 := by
  have e := congrFun h ix0
  pointwise [fn, fn_part1] at e
  obtain ⟨e01, e2⟩ := (andi_eq_one _ _).1 e
  obtain ⟨e0, e1⟩ := (andi_eq_one _ _).1 e01
  refine ⟨fun r => ?_, fun r q => ?_, (inRange_iff (by decide) _).1 e2⟩
  · exact (inRange_iff (by decide) _).1 ((fold_andi_eq_one _ _).1 e0 r (Finset.mem_univ _))
  · exact (inRange_iff (by decide) _).1 ((fold_andi_eq_one _ _).1 e1 (r, q) (Finset.mem_univ _))

end Cert.Precondition

end
-- ==== Proof.Equation.lean ====
/- The equation between the two programs: the kernel's run and the reference's run, each with its results named as the
   tables' rows at the index words, put side by side. The reference's frame is here too. -/
module

public import proofs.«01_k».proof.Defs
public import proofs.«01_k».proof.Proof.KernelArrays
public import proofs.«01_k».proof.Proof.ReferenceRows
public import proofs.«01_k».proof.Proof.Precondition
public import Idealize.ShloMosaic.Lib.Quiescent

@[expose] public section

set_option maxRecDepth 16384

noncomputable section

namespace Cert.Equation

open Idealize.ShloMosaic Idealize.SL.Sem Cert.Arrays

/-- The reference runs to its end with its arguments unchanged and every semaphore counter at zero: it has none. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run Cert.ReferenceIdeal.defs _ _).mono
    (fun r h => ⟨fun c => (h c).2.2.2, sem_eq_zero_of_no_sems (by decide) r.2⟩) (Cert.ReferenceIdeal.Value.run m g)

/-- The kernel's run with its three results named: where the precondition holds, they are the tables' rows at the index
    words. -/
theorem run_kernel (m : (ℓ : Loc Cert.KernelIdeal.nD Cert.KernelIdeal.τ Cert.KernelIdeal.sig) → Buf (Elt Ideal) ℓ)
    (g : Dev Cert.KernelIdeal.nD → PrngReg)
    (hpre : Cert.Pre_KernelIdeal_in_tables (hPre_in_tables := Cert.Pre_in_tables.Gen.facts) m) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v0_0) = nodeRows (m ((c.tc : Thread Cert.KernelIdeal.nD Cert.KernelIdeal.τ).loc Cert.KernelIdeal.main_arg0)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_v0_1) = edgeRows (m ((c.tc : Thread Cert.KernelIdeal.nD Cert.KernelIdeal.τ).loc Cert.KernelIdeal.main_arg1)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_v0_2) = timeRow (m ((c.tc : Thread Cert.KernelIdeal.nD Cert.KernelIdeal.τ).loc Cert.KernelIdeal.main_arg2)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun r h c => by
      obtain ⟨h0, h1, h2⟩ := Cert.Precondition.decode _ _ _ _ _ _ (hpre c)
      refine ⟨(h c).1.trans ?_, (h c).2.1.trans ?_, (h c).2.2.1.trans ?_, (h c).2.2.2⟩
      · rw [Cert.KernelRun.last_nodes m g c]
        exact (Cert.KernelArrays.nodes c _ _ (Cert.KernelRun.entry_nodes m g c) h0).trans
          (congrArg _ (Cert.KernelRun.entry_node_table m g c))
      · rw [Cert.KernelRun.last_edges m g c]
        exact Cert.KernelArrays.edges c (Cert.KernelIdeal.Gen.V0 m g) h1
      · rw [Cert.KernelRun.last_time m g c]
        exact (Cert.KernelArrays.time c _ _ (Cert.KernelRun.entry_time m g c) h2).trans
          (congrArg _ (Cert.KernelRun.entry_time_table m g c)))
    (Cert.KernelRun.run m g)

/-- The kernel's three results equal the reference's, over the extended reals, where the precondition holds. -/
theorem algebraic : Cert.algebraic_KernelIdeal_ReferenceIdeal_pre_in_tables (hKernelIdeal := Cert.KernelIdeal.Gen.facts)
    (hReferenceIdeal := Cert.ReferenceIdeal.Gen.facts) (hPre_in_tables := Cert.Pre_in_tables.Gen.facts) := by
  intro m g m' g' hpre hagree
  refine ⟨_, _, _, run_kernel m g hpre, (θ_run Cert.ReferenceIdeal.defs _ _).mono (fun r h c => ?_)
    (Cert.ReferenceIdeal.Value.run m' g')⟩
  obtain ⟨h0, h1, h2⟩ := Cert.Precondition.decode _ _ _ _ _ _ (hpre c)
  obtain ⟨e0, e1, e2, e3, e4, e5⟩ := hagree c
  refine ⟨(h c).1.trans ?_, (h c).2.1.trans ?_, (h c).2.2.1.trans ?_, (h c).2.2.2⟩
  · rw [e0, e3]
    exact Cert.ReferenceRows.nodes _ _ h0
  · rw [e1, e4]
    exact Cert.ReferenceRows.edges _ _ h1
  · rw [e2, e5]
    exact Cert.ReferenceRows.time _ _ h2

end Cert.Equation

end
-- ==== Proof.lean ====
/- The proof of the claims: the two frames of the kernel (at machine words and at extended reals), the frame of the
   reference, and the equality of the kernel's three results with the reference's over the extended reals. Both programs
   are shown to end with the arrays of Proof/Arrays.lean: each table's rows, taken at the index words. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_in_tables
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

/-- Every claim: the programs' stated facts, the five frames (with and without the precondition), the preservation, which
    is trivial because nothing was rewritten, and the equality of the results. -/
theorem claim : Cert.Claim :=
  ⟨Cert.Kernel.Gen.facts, Cert.KernelIdeal.Gen.facts, Cert.ReferenceIdeal.Gen.facts, Cert.Pre_in_tables.Gen.facts,
    fun m g _ => Cert.Kernel.Gen.frame m g, fun m g _ => Cert.KernelIdeal.Gen.frame m g,
    fun m g _ => Cert.KernelIdeal.Gen.frame m g, fun m g _ => Cert.Equation.frame_reference m g,
    fun m g _ => Cert.Equation.frame_reference m g, trivial, Cert.Equation.algebraic⟩

end Cert.Proof

end
